-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x512x512 : Shape := ⟨4, ![16, 1, 512, 512]⟩
abbrev S1x1x512x512 : Shape := ⟨4, ![1, 1, 512, 512]⟩
abbrev S512x512 : Shape := ⟨2, ![512, 512]⟩
abbrev S3x512 : Shape := ⟨2, ![3, 512]⟩
abbrev S515x512 : Shape := ⟨2, ![515, 512]⟩
abbrev S1x512 : Shape := ⟨2, ![1, 512]⟩
abbrev S514x512 : Shape := ⟨2, ![514, 512]⟩
abbrev S2x512 : Shape := ⟨2, ![2, 512]⟩
abbrev S513x512 : Shape := ⟨2, ![513, 512]⟩
abbrev S515x1 : Shape := ⟨2, ![515, 1]⟩
abbrev S515x511 : Shape := ⟨2, ![515, 511]⟩
abbrev S515x2 : Shape := ⟨2, ![515, 2]⟩
abbrev S515x510 : Shape := ⟨2, ![515, 510]⟩
abbrev S515x3 : Shape := ⟨2, ![515, 3]⟩
abbrev S515x509 : Shape := ⟨2, ![515, 509]⟩
abbrev S515x128 : Shape := ⟨2, ![515, 128]⟩
abbrev S515x127 : Shape := ⟨2, ![515, 127]⟩
abbrev S515x126 : Shape := ⟨2, ![515, 126]⟩
abbrev S515x384 : Shape := ⟨2, ![515, 384]⟩
abbrev S515x256 : Shape := ⟨2, ![515, 256]⟩
abbrev S515x255 : Shape := ⟨2, ![515, 255]⟩
abbrev S515x254 : Shape := ⟨2, ![515, 254]⟩

abbrev nBuf : Space → Nat
  | .hbm => 2
  | .vmem => 4
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x1x512x512 : Shape := ⟨4, ![16, 1, 512, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S_, .f32⟩
  | .hbm, ⟨2, _⟩ => ⟨S16x1x512x512, .f32⟩
  | .hbm, ⟨3, _⟩ => ⟨S_, .f32⟩
  | .hbm, ⟨4, _⟩ => ⟨S_, .f32⟩
  | .hbm, ⟨5, _⟩ => ⟨S16x1x512x512, .f32⟩
  | .hbm, ⟨6, _⟩ => ⟨S16x1x512x512, .i1⟩
  | .hbm, ⟨7, _⟩ => ⟨S16x1x512x512, .f32⟩
  | .hbm, ⟨8, _⟩ => ⟨S_, .f32⟩
  | .hbm, ⟨9, _⟩ => ⟨S_, .f32⟩
  | .hbm, ⟨10, _⟩ => ⟨S16x1x512x512, .f32⟩
  | .hbm, ⟨11, _⟩ => ⟨S_, .f32⟩
  | .hbm, ⟨12, _⟩ => ⟨S16x1x512x512, .f32⟩
  | .hbm, ⟨13, _⟩ => ⟨S16x1x512x512, .i1⟩
  | .hbm, ⟨14, _⟩ => ⟨S16x1x512x512, .f32⟩
  | .hbm, ⟨15, _⟩ => ⟨S_, .f32⟩
  | .hbm, ⟨16, _⟩ => ⟨S_, .f32⟩
  | .hbm, ⟨17, _⟩ => ⟨S16x1x512x512, .f32⟩
  | .hbm, ⟨18, _⟩ => ⟨S16x1x512x512, .i1⟩
  | .hbm, ⟨19, _⟩ => ⟨S16x1x512x512, .i1⟩
  | .hbm, ⟨20, _⟩ => ⟨S16x1x512x512, .i1⟩
  | .hbm, ⟨21, _⟩ => ⟨S16x1x512x512, .i1⟩
  | .hbm, ⟨22, _⟩ => ⟨S16x1x512x512, .f32⟩
  | .hbm, ⟨23, _⟩ => ⟨S_, .f32⟩
  | .hbm, ⟨24, _⟩ => ⟨S_, .f32⟩
  | .hbm, ⟨25, _⟩ => ⟨S16x1x512x512, .f32⟩
  | .hbm, ⟨26, _⟩ => ⟨S_, .f32⟩
  | .hbm, ⟨27, _⟩ => ⟨S16x1x512x512, .f32⟩
  | .hbm, ⟨28, _⟩ => ⟨S16x1x512x512, .i1⟩
  | .hbm, ⟨29, _⟩ => ⟨S16x1x512x512, .f32⟩
  | .hbm, ⟨30, _⟩ => ⟨S_, .f32⟩
  | .hbm, ⟨31, _⟩ => ⟨S_, .f32⟩
  | .hbm, ⟨32, _⟩ => ⟨S16x1x512x512, .f32⟩
  | .hbm, ⟨33, _⟩ => ⟨S16x1x512x512, .i1⟩
  | .hbm, ⟨34, _⟩ => ⟨S16x1x512x512, .i1⟩
  | .hbm, ⟨35, _⟩ => ⟨S16x1x512x512, .i1⟩
  | .hbm, ⟨36, _⟩ => ⟨S16x1x512x512, .i1⟩
  | .hbm, ⟨37, _⟩ => ⟨S16x1x512x512, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Plane.lean ====
/-
  Matrices of extended reals read at integer coordinates, −∞ outside: what a concatenation, a slice, a constant and a
  maximum read as there, and so what a shift by a few rows or columns reads as.
-/
module

public import Idealize.ShloMosaic.PureOps.Ideal
public import Idealize.ShloMosaic.Lib.Pointwise

@[expose] public section

noncomputable section

namespace Cert.Plane

open Idealize.ShloMosaic

/-- A matrix shape. -/
abbrev Mat (R C : ℕ) : Shape := ⟨2, ![R, C]⟩

variable {φ : FTy} {R C : ℕ}

/-- The matrix `v` at the integer coordinates `(i, j)`: its element there, −∞ off the matrix. -/
def ext (v : FVec Ideal (Mat R C) φ) (i j : ℤ) : EReal :=
  if h : (0 ≤ i ∧ i < R) ∧ (0 ≤ j ∧ j < C) then
    v (ix2 ⟨i.toNat, by omega⟩ ⟨j.toNat, by omega⟩)
  else ⊥

theorem ext_in (v : FVec Ideal (Mat R C) φ) (a : Fin R) (b : Fin C) (i j : ℤ) (hi : i = a.val) (hj : j = b.val) :
    ext v i j = v (ix2 a b) := by
  subst hi hj
  unfold ext
  rw [dif_pos ⟨⟨by omega, by omega⟩, by omega, by omega⟩]
  rfl

theorem ext_out (v : FVec Ideal (Mat R C) φ) (i j : ℤ) (h : ¬ ((0 ≤ i ∧ i < R) ∧ (0 ≤ j ∧ j < C))) :
    ext v i j = ⊥ := dif_neg h

/-- Coordinates in range are those of an index. -/
theorem exists_fin {n : ℕ} {i : ℤ} (h0 : 0 ≤ i) (h1 : i < n) : ∃ a : Fin n, i = a.val :=
  ⟨⟨i.toNat, by omega⟩, by simp only []; omega⟩

theorem ext_max (v w : FVec Ideal (Mat R C) φ) (i j : ℤ) :
    ext (maximumf v w) i j = max (ext v i j) (ext w i j) := by
  unfold ext
  split
  · rfl
  · exact (max_self _).symm

theorem ext_bot (c : Ideal φ) (hc : c = (⊥ : EReal)) (i j : ℤ) : ext (broadcast (Mat R C) c) i j = ⊥ := by
  unfold ext
  split
  · exact hc
  · rfl

/-- One matrix on top of another. -/
theorem ext_concat0 {A B : ℕ} (v : FVec Ideal (Mat A C) φ) (w : FVec Ideal (Mat B C) φ)
    (h : Shape.Concatenates [Mat A C, Mat B C] (Mat R C) 0) (hR : A + B = R) (i j : ℤ) :
    ext (concatenate (Mat R C) 0 [⟨Mat A C, v⟩, ⟨Mat B C, w⟩] h : FVec Ideal (Mat R C) φ) i j
      = if i < A then ext v i j else ext w (i - A) j := by
  by_cases hin : (0 ≤ i ∧ i < R) ∧ (0 ≤ j ∧ j < C)
  · obtain ⟨a, rfl⟩ := exists_fin hin.1.1 hin.1.2
    obtain ⟨b, rfl⟩ := exists_fin hin.2.1 hin.2.2
    rw [ext_in _ a b _ _ rfl rfl]
    by_cases hA : (a.val : ℤ) < A
    · rw [if_pos hA, ext_in v ⟨a.val, by omega⟩ b _ _ rfl rfl]
      refine concatenate_pair_apply_left (t := Mat R C) 0 v w h (ix2 a b) rfl _ fun x => ?_
      match x with
      | ⟨0, _⟩ => rfl
      | ⟨1, _⟩ => rfl
    · rw [if_neg hA, ext_in w ⟨a.val - A, by omega⟩ b _ _ (by simp only []; omega) rfl]
      refine concatenate_pair_apply_right (t := Mat R C) 0 v w h (ix2 a b) rfl rfl _ (fun x hx => ?_) ?_
      · match x, hx with
        | ⟨1, _⟩, _ => rfl
        | ⟨0, _⟩, hx => exact absurd rfl hx
      · show a.val - A + A = a.val
        omega
  · rw [ext_out _ _ _ hin]
    split
    · rw [ext_out _ _ _ (by omega)]
    · rw [ext_out _ _ _ (by omega)]

/-- One matrix to the left of another. -/
theorem ext_concat1 {A B : ℕ} (v : FVec Ideal (Mat R A) φ) (w : FVec Ideal (Mat R B) φ)
    (h : Shape.Concatenates [Mat R A, Mat R B] (Mat R C) 1) (hC : A + B = C) (i j : ℤ) :
    ext (concatenate (Mat R C) 1 [⟨Mat R A, v⟩, ⟨Mat R B, w⟩] h : FVec Ideal (Mat R C) φ) i j
      = if j < A then ext v i j else ext w i (j - A) := by
  by_cases hin : (0 ≤ i ∧ i < R) ∧ (0 ≤ j ∧ j < C)
  · obtain ⟨a, rfl⟩ := exists_fin hin.1.1 hin.1.2
    obtain ⟨b, rfl⟩ := exists_fin hin.2.1 hin.2.2
    rw [ext_in _ a b _ _ rfl rfl]
    by_cases hA : (b.val : ℤ) < A
    · rw [if_pos hA, ext_in v a ⟨b.val, by omega⟩ _ _ rfl rfl]
      refine concatenate_pair_apply_left (t := Mat R C) 1 v w h (ix2 a b) rfl _ fun x => ?_
      match x with
      | ⟨0, _⟩ => rfl
      | ⟨1, _⟩ => rfl
    · rw [if_neg hA, ext_in w a ⟨b.val - A, by omega⟩ _ _ rfl (by simp only []; omega)]
      refine concatenate_pair_apply_right (t := Mat R C) 1 v w h (ix2 a b) rfl rfl _ (fun x hx => ?_) ?_
      · match x, hx with
        | ⟨0, _⟩, _ => rfl
        | ⟨1, _⟩, hx => exact absurd rfl hx
      · show b.val - A + A = b.val
        omega
  · rw [ext_out _ _ _ hin]
    split
    · rw [ext_out _ _ _ (by omega)]
    · rw [ext_out _ _ _ (by omega)]

/-- A window of a matrix from row `o` and column `p` on. -/
theorem ext_slice {A B o p : ℕ} (v : FVec Ideal (Mat R C) φ) (h : (Mat R C).Slices ![o, p] (Mat A B)) (i j : ℤ) :
    ext (extractStridedSlice (Mat A B) ![o, p] v h : FVec Ideal (Mat A B) φ) i j
      = if (0 ≤ i ∧ i < A) ∧ (0 ≤ j ∧ j < B) then ext v (i + o) (j + p) else ⊥ := by
  have h0 : o + A ≤ R := h.2 0
  have h1 : p + B ≤ C := h.2 1
  split
  · next hin =>
    obtain ⟨a, rfl⟩ := exists_fin hin.1.1 hin.1.2
    obtain ⟨b, rfl⟩ := exists_fin hin.2.1 hin.2.2
    rw [ext_in _ a b _ _ rfl rfl, ext_in v ⟨o + a.val, by omega⟩ ⟨p + b.val, by omega⟩ _ _ (by simp only []; omega)
      (by simp only []; omega)]
    refine congrArg v (funext fun x => ?_)
    match x with
    | ⟨0, _⟩ => rfl
    | ⟨1, _⟩ => rfl
  · next hin => exact ext_out _ _ _ hin

/-- Rows moved down by `d`, −∞ above. -/
theorem ext_down {d n : ℕ} (c : Ideal φ) (hc : c = (⊥ : EReal)) (v : FVec Ideal (Mat R C) φ)
    (hs : (Mat R C).Slices ![0, 0] (Mat n C)) (h : Shape.Concatenates [Mat d C, Mat n C] (Mat R C) 0) (hR : d + n = R)
    (i j : ℤ) (hi : i < R) :
    ext (concatenate (Mat R C) 0 [⟨Mat d C, broadcast (Mat d C) c⟩, ⟨Mat n C, extractStridedSlice (Mat n C) ![0, 0] v hs⟩] h :
      FVec Ideal (Mat R C) φ) i j = ext v (i - d) j := by
  rw [ext_concat0 _ _ h hR, ext_bot c hc, ext_slice]
  split
  · rw [ext_out _ _ _ (by omega)]
  · split
    · simp
    · rw [ext_out _ _ _ (by omega)]

/-- Rows moved up by `d`, −∞ below. -/
theorem ext_up {d n : ℕ} (c : Ideal φ) (hc : c = (⊥ : EReal)) (v : FVec Ideal (Mat R C) φ)
    (hs : (Mat R C).Slices ![d, 0] (Mat n C)) (h : Shape.Concatenates [Mat n C, Mat d C] (Mat R C) 0) (hR : n + d = R)
    (i j : ℤ) (hi : 0 ≤ i) :
    ext (concatenate (Mat R C) 0 [⟨Mat n C, extractStridedSlice (Mat n C) ![d, 0] v hs⟩, ⟨Mat d C, broadcast (Mat d C) c⟩] h :
      FVec Ideal (Mat R C) φ) i j = ext v (i + d) j := by
  rw [ext_concat0 _ _ h hR, ext_bot c hc, ext_slice]
  split
  · split
    · simp
    · rw [ext_out _ _ _ (by omega)]
  · rw [ext_out _ _ _ (by omega)]

/-- Columns moved right by `d`, −∞ on the left. -/
theorem ext_right {d n : ℕ} (c : Ideal φ) (hc : c = (⊥ : EReal)) (v : FVec Ideal (Mat R C) φ)
    (hs : (Mat R C).Slices ![0, 0] (Mat R n)) (h : Shape.Concatenates [Mat R d, Mat R n] (Mat R C) 1) (hC : d + n = C)
    (i j : ℤ) (hj : j < C) :
    ext (concatenate (Mat R C) 1 [⟨Mat R d, broadcast (Mat R d) c⟩, ⟨Mat R n, extractStridedSlice (Mat R n) ![0, 0] v hs⟩] h :
      FVec Ideal (Mat R C) φ) i j = ext v i (j - d) := by
  rw [ext_concat1 _ _ h hC, ext_bot c hc, ext_slice]
  split
  · rw [ext_out _ _ _ (by omega)]
  · split
    · simp
    · rw [ext_out _ _ _ (by omega)]

/-- Columns moved left by `d`, −∞ on the right. -/
theorem ext_left {d n : ℕ} (c : Ideal φ) (hc : c = (⊥ : EReal)) (v : FVec Ideal (Mat R C) φ)
    (hs : (Mat R C).Slices ![0, d] (Mat R n)) (h : Shape.Concatenates [Mat R n, Mat R d] (Mat R C) 1) (hC : n + d = C)
    (i j : ℤ) (hj : 0 ≤ j) :
    ext (concatenate (Mat R C) 1 [⟨Mat R n, extractStridedSlice (Mat R n) ![0, d] v hs⟩, ⟨Mat R d, broadcast (Mat R d) c⟩] h :
      FVec Ideal (Mat R C) φ) i j = ext v i (j + d) := by
  rw [ext_concat1 _ _ h hC, ext_bot c hc, ext_slice]
  split
  · split
    · simp
    · rw [ext_out _ _ _ (by omega)]
  · rw [ext_out _ _ _ (by omega)]

/-- The word of −∞ in binary32, read as an extended real. -/
theorem neg_inf_f32 : (Scalar.ofBits .f32 0xFF800000#32 : Ideal .f32) = (⊥ : EReal) := by
  show Ideal.ofBits .f32 0xFF800000#32 = ⊥
  simp [Ideal.ofBits, Ideal.ieee]

/-- The word of −∞ in bfloat16, read as an extended real. -/
theorem neg_inf_bf16 : (Scalar.ofBits .bf16 0xFF80#16 : Ideal .bf16) = (⊥ : EReal) := by
  show Ideal.ofBits .bf16 0xFF80#16 = ⊥
  simp [Ideal.ofBits, Ideal.ieee]

end Cert.Plane
-- ==== Proof.Suppress.lean ====
/-
  Non-maximum suppression on a plane of extended reals, and the one step of it that the kernel runs on a plane with three
  further rows below: those rows can only mark and suppress points whose score is −∞, and such points never decide a mask.
-/
module

public import Mathlib.Data.EReal.Basic

@[expose] public section

noncomputable section

namespace Cert.Suppress

/-- The points of the image. -/
def InG (i j : ℤ) : Prop := (0 ≤ i ∧ i < 512) ∧ (0 ≤ j ∧ j < 512)

/-- The points of the image with three further rows below it. -/
def InP (i j : ℤ) : Prop := (0 ≤ i ∧ i < 515) ∧ (0 ≤ j ∧ j < 512)

instance (i j : ℤ) : Decidable (InG i j) := by unfold InG; infer_instance

instance (i j : ℤ) : Decidable (InP i j) := by unfold InP; infer_instance

/-- Two points within three rows and three columns of each other. -/
def Near (i j i' j' : ℤ) : Prop := (i - 3 ≤ i' ∧ i' ≤ i + 3) ∧ (j - 3 ≤ j' ∧ j' ≤ j + 3)

/-- The plane `v` is at `(i, j)` at least what it is near by. -/
def Peak (v : ℤ → ℤ → EReal) (i j : ℤ) : Prop := ∀ i' j', Near i j i' j' → v i' j' ≤ v i j

theorem Near.refl (i j : ℤ) : Near i j i j := by unfold Near; omega

theorem Near.symm {i j i' j' : ℤ} (h : Near i j i' j') : Near i' j' i j := by unfold Near at *; omega

/-- A point and what suppresses it. `m` is a mask on the image, `M` one on the image and the rows below, equal on the image;
    `m` holds at every peak of the scores `x`; where `M` holds below the image, all scores near by are −∞. `s` and `S` are
    what the two masks suppress, `u` and `U` the scores left, 0 where suppressed and −∞ off the image. Then a point of the
    image is in the one new mask exactly when it is in the other. -/
theorem step_iff (x u U : ℤ → ℤ → EReal) (m M s S : ℤ → ℤ → Prop)
    (hx : ∀ i j, ¬ InG i j → x i j = ⊥)
    (hM : ∀ i j, InG i j → (M i j ↔ m i j))
    (hpeak : ∀ i j, InG i j → Peak x i j → m i j)
    (hpad : ∀ i j, InP i j → ¬ InG i j → M i j → ∀ i' j', InG i' j' → Near i j i' j' → x i' j' = ⊥)
    (hs : ∀ i j, InG i j → (s i j ↔ ∃ i' j', InG i' j' ∧ Near i j i' j' ∧ m i' j'))
    (hS : ∀ i j, InG i j → (S i j ↔ ∃ i' j', InP i' j' ∧ Near i j i' j' ∧ M i' j'))
    (hu0 : ∀ i j, InG i j → s i j → u i j = 0) (hu1 : ∀ i j, InG i j → ¬ s i j → u i j = x i j)
    (hu2 : ∀ i j, ¬ InG i j → u i j = ⊥)
    (hU0 : ∀ i j, InG i j → S i j → U i j = 0) (hU1 : ∀ i j, InG i j → ¬ S i j → U i j = x i j)
    (hU2 : ∀ i j, ¬ InG i j → U i j = ⊥)
    (i j : ℤ) (hij : InG i j) :
    (M i j ∨ (Peak U i j ∧ ¬ S i j)) ↔ (m i j ∨ (Peak u i j ∧ ¬ s i j)) := by
  have hsS : ∀ i j, InG i j → s i j → S i j := fun i j h hh => by
    obtain ⟨i', j', h1, h2, h3⟩ := (hs i j h).1 hh
    refine (hS i j h).2 ⟨i', j', ?_, h2, (hM _ _ h1).2 h3⟩
    unfold InG at h1; unfold InP; omega
  have hSs : ∀ i j, InG i j → S i j → x i j ≠ ⊥ → s i j := fun i j h hh hne => by
    obtain ⟨i', j', h1, h2, h3⟩ := (hS i j h).1 hh
    by_cases hg : InG i' j'
    · exact (hs i j h).2 ⟨i', j', hg, h2, (hM _ _ hg).1 h3⟩
    · exact absurd (hpad i' j' h1 hg h3 i j h h2.symm) hne
  constructor
  · rintro (h | ⟨hP, hn⟩)
    · exact .inl ((hM i j hij).1 h)
    · have hns : ¬ s i j := fun h => hn (hsS i j hij h)
      have hUx := hU1 i j hij hn
      by_cases hz : ∃ i' j', InG i' j' ∧ Near i j i' j' ∧ S i' j'
      · obtain ⟨i₀, j₀, g₀, n₀, s₀⟩ := hz
        have h0 : (0 : EReal) ≤ x i j := by
          have := hP i₀ j₀ n₀
          rwa [hU0 i₀ j₀ g₀ s₀, hUx] at this
        refine .inr ⟨fun i' j' hn' => ?_, hns⟩
        rw [hu1 i j hij hns]
        by_cases hg : InG i' j'
        · by_cases h' : s i' j'
          · rw [hu0 _ _ hg h']; exact h0
          · rw [hu1 _ _ hg h']
            by_cases hS' : S i' j'
            · by_cases hb : x i' j' = ⊥
              · rw [hb]; exact bot_le
              · exact absurd (hSs _ _ hg hS' hb) h'
            · have := hP i' j' hn'
              rwa [hU1 _ _ hg hS', hUx] at this
        · rw [hu2 _ _ hg]; exact bot_le
      · refine .inl (hpeak i j hij fun i' j' hn' => ?_)
        by_cases hg : InG i' j'
        · have := hP i' j' hn'
          rwa [hU1 _ _ hg fun h => hz ⟨i', j', hg, hn', h⟩, hUx] at this
        · rw [hx _ _ hg]; exact bot_le
  · rintro (h | ⟨hP, hn⟩)
    · exact .inl ((hM i j hij).2 h)
    · have hux := hu1 i j hij hn
      by_cases hz : ∃ i' j', InG i' j' ∧ Near i j i' j' ∧ s i' j'
      · obtain ⟨i₀, j₀, g₀, n₀, s₀⟩ := hz
        have h0 : (0 : EReal) ≤ x i j := by
          have := hP i₀ j₀ n₀
          rwa [hu0 i₀ j₀ g₀ s₀, hux] at this
        have hne : x i j ≠ ⊥ := fun h => by
          rw [h] at h0
          exact absurd h0 (not_le.2 (EReal.bot_lt_zero))
        have hnS : ¬ S i j := fun h => hn (hSs i j hij h hne)
        refine .inr ⟨fun i' j' hn' => ?_, hnS⟩
        rw [hU1 i j hij hnS]
        by_cases hg : InG i' j'
        · by_cases h' : S i' j'
          · rw [hU0 _ _ hg h']; exact h0
          · rw [hU1 _ _ hg h']
            have := hP i' j' hn'
            rwa [hu1 _ _ hg fun h => h' (hsS _ _ hg h), hux] at this
        · rw [hU2 _ _ hg]; exact bot_le
      · refine .inl ((hM i j hij).2 (hpeak i j hij fun i' j' hn' => ?_))
        by_cases hg : InG i' j'
        · have := hP i' j' hn'
          rwa [hu1 _ _ hg fun h => hz ⟨i', j', hg, hn', h⟩, hux] at this
        · rw [hx _ _ hg]; exact bot_le

end Cert.Suppress
-- ==== Proof.Pool.lean ====
/-
  The kernel's maximum over seven by seven windows, on a 515 × 512 plane: rows, then columns, each by three shifts, the last
  columns done over.
-/
module

public import proofs.«01_k».proof.Proof.Gen.KernelIdeal.Skeleton
public import proofs.«01_k».proof.Proof.Plane
public import proofs.«01_k».proof.Proof.Suppress

@[expose] public section

noncomputable section

namespace Cert.Pool

open Idealize.ShloMosaic Cert.KernelIdeal.Gen Cert.KernelIdeal Cert.Plane Cert.Suppress

variable {φ : FTy}

/-- The greater of each element and the one above it. -/
def rows1 (c : Ideal φ) (v : FVec Ideal S515x512 φ) : FVec Ideal S515x512 φ :=
  maximumf v (concatenate S515x512 0 [⟨S1x512, broadcast S1x512 c⟩,
    ⟨S514x512, extractStridedSlice S514x512 ![0, 0] v slices_S515x512_o0_0_S514x512⟩]
    concatenates_S1x512_S514x512_S515x512_d0)

/-- The greater of each element and the one two rows above it. -/
def rows2 (c : Ideal φ) (v : FVec Ideal S515x512 φ) : FVec Ideal S515x512 φ :=
  maximumf v (concatenate S515x512 0 [⟨S2x512, broadcast S2x512 c⟩,
    ⟨S513x512, extractStridedSlice S513x512 ![0, 0] v slices_S515x512_o0_0_S513x512⟩]
    concatenates_S2x512_S513x512_S515x512_d0)

/-- The greater of each element and the one three rows below it. -/
def rows3 (c : Ideal φ) (v : FVec Ideal S515x512 φ) : FVec Ideal S515x512 φ :=
  maximumf v (concatenate S515x512 0 [⟨S512x512, extractStridedSlice S512x512 ![3, 0] v slices_S515x512_o3_0_S512x512⟩,
    ⟨S3x512, broadcast S3x512 c⟩] concatenates_S512x512_S3x512_S515x512_d0)

/-- The maxima over seven rows. -/
def rows (c : Ideal φ) (v : FVec Ideal S515x512 φ) : FVec Ideal S515x512 φ := rows3 c (rows2 c (rows1 c v))

/-- The greater of each element and the one left of it. -/
def cols1 (c : Ideal φ) (v : FVec Ideal S515x512 φ) : FVec Ideal S515x512 φ :=
  maximumf v (concatenate S515x512 1 [⟨S515x1, broadcast S515x1 c⟩,
    ⟨S515x511, extractStridedSlice S515x511 ![0, 0] v slices_S515x512_o0_0_S515x511⟩]
    concatenates_S515x1_S515x511_S515x512_d1)

/-- The greater of each element and the one two columns left of it. -/
def cols2 (c : Ideal φ) (v : FVec Ideal S515x512 φ) : FVec Ideal S515x512 φ :=
  maximumf v (concatenate S515x512 1 [⟨S515x2, broadcast S515x2 c⟩,
    ⟨S515x510, extractStridedSlice S515x510 ![0, 0] v slices_S515x512_o0_0_S515x510⟩]
    concatenates_S515x2_S515x510_S515x512_d1)

/-- The greater of each element and the one three columns right of it. -/
def cols3 (c : Ideal φ) (v : FVec Ideal S515x512 φ) : FVec Ideal S515x512 φ :=
  maximumf v (concatenate S515x512 1 [⟨S515x509, extractStridedSlice S515x509 ![0, 3] v slices_S515x512_o0_3_S515x509⟩,
    ⟨S515x3, broadcast S515x3 c⟩] concatenates_S515x509_S515x3_S515x512_d1)

/-- Of the last 128 columns, the maxima of each element and the three right of it. -/
def edge128 (c : Ideal φ) (e : FVec Ideal S515x128 φ) : FVec Ideal S515x128 φ :=
  let t := maximumf e (concatenate S515x128 1 [⟨S515x127, extractStridedSlice S515x127 ![0, 1] e slices_S515x128_o0_1_S515x127⟩,
    ⟨S515x1, broadcast S515x1 c⟩] concatenates_S515x127_S515x1_S515x128_d1)
  maximumf t (concatenate S515x128 1 [⟨S515x126, extractStridedSlice S515x126 ![0, 2] t slices_S515x128_o0_2_S515x126⟩,
    ⟨S515x2, broadcast S515x2 c⟩] concatenates_S515x126_S515x2_S515x128_d1)

/-- Of the last 256 columns, the maxima of each element and the three right of it. -/
def edge256 (c : Ideal φ) (e : FVec Ideal S515x256 φ) : FVec Ideal S515x256 φ :=
  let t := maximumf e (concatenate S515x256 1 [⟨S515x255, extractStridedSlice S515x255 ![0, 1] e slices_S515x256_o0_1_S515x255⟩,
    ⟨S515x1, broadcast S515x1 c⟩] concatenates_S515x255_S515x1_S515x256_d1)
  maximumf t (concatenate S515x256 1 [⟨S515x254, extractStridedSlice S515x254 ![0, 2] t slices_S515x256_o0_2_S515x254⟩,
    ⟨S515x2, broadcast S515x2 c⟩] concatenates_S515x254_S515x2_S515x256_d1)

/-- The maxima over seven columns, the last 128 columns done over. -/
def colsF (c : Ideal φ) (v : FVec Ideal S515x512 φ) : FVec Ideal S515x512 φ :=
  let z := cols3 c (cols2 c (cols1 c v))
  concatenate S515x512 1 [⟨S515x384, extractStridedSlice S515x384 ![0, 0] z slices_S515x512_o0_0_S515x384⟩,
    ⟨S515x128, maximumf (extractStridedSlice S515x128 ![0, 384] z slices_S515x512_o0_384_S515x128)
      (edge128 c (extractStridedSlice S515x128 ![0, 384] v slices_S515x512_o0_384_S515x128))⟩]
    concatenates_S515x384_S515x128_S515x512_d1

/-- The maxima over seven columns, the last 256 columns done over. -/
def colsH (c : Ideal φ) (v : FVec Ideal S515x512 φ) : FVec Ideal S515x512 φ :=
  let z := cols3 c (cols2 c (cols1 c v))
  concatenate S515x512 1 [⟨S515x256, extractStridedSlice S515x256 ![0, 0] z slices_S515x512_o0_0_S515x256⟩,
    ⟨S515x256, maximumf (extractStridedSlice S515x256 ![0, 256] z slices_S515x512_o0_256_S515x256)
      (edge256 c (extractStridedSlice S515x256 ![0, 256] v slices_S515x512_o0_256_S515x256))⟩]
    concatenates_S515x256_S515x256_S515x512_d1

section
variable (c : Ideal φ) (hc : c = (⊥ : EReal))
include hc

theorem rows1_le (v : FVec Ideal S515x512 φ) (b : EReal) (i j : ℤ) (hi : i < 515) :
    ext (rows1 c v) i j ≤ b ↔ ∀ i', i - 1 ≤ i' → i' ≤ i → ext v i' j ≤ b := by
  unfold rows1
  rw [ext_max, ext_down (R := 515) (C := 512) (d := 1) (n := 514) c hc v _ _ rfl i j hi, max_le_iff]
  refine ⟨fun h i' h1 h2 => ?_, fun h => ⟨h _ (by omega) (by omega), h _ (by omega) (by omega)⟩⟩
  obtain rfl | rfl : i' = i ∨ i' = i - 1 := by omega
  · exact h.1
  · exact h.2

theorem rows2_le (v : FVec Ideal S515x512 φ) (b : EReal) (i j : ℤ) (hi : i < 515) :
    ext (rows2 c v) i j ≤ b ↔ ext v i j ≤ b ∧ ext v (i - 2) j ≤ b := by
  unfold rows2
  rw [ext_max, ext_down (R := 515) (C := 512) (d := 2) (n := 513) c hc v _ _ rfl i j hi, max_le_iff]
  rfl

theorem rows21_le (v : FVec Ideal S515x512 φ) (b : EReal) (i j : ℤ) (hi : i < 515) :
    ext (rows2 c (rows1 c v)) i j ≤ b ↔ ∀ i', i - 3 ≤ i' → i' ≤ i → ext v i' j ≤ b := by
  rw [rows2_le c hc _ _ _ _ hi, rows1_le c hc _ _ _ _ hi, rows1_le c hc _ _ _ _ (by omega)]
  refine ⟨fun h i' h1 h2 => ?_, fun h => ⟨fun i' _ _ => h i' (by omega) (by omega), fun i' _ _ => h i' (by omega) (by omega)⟩⟩
  by_cases h3 : i - 1 ≤ i'
  · exact h.1 i' h3 h2
  · exact h.2 i' (by omega) (by omega)

/-- A row of the image takes its maximum over the seven rows around it. -/
theorem rows_le (v : FVec Ideal S515x512 φ) (b : EReal) (i j : ℤ) (h0 : 0 ≤ i) (hi : i < 512) :
    ext (rows c v) i j ≤ b ↔ ∀ i', i - 3 ≤ i' → i' ≤ i + 3 → ext v i' j ≤ b := by
  unfold rows rows3
  rw [ext_max, ext_up (R := 515) (C := 512) (d := 3) (n := 512) c hc _ _ _ rfl i j h0, max_le_iff, rows21_le c hc _ _ _ _ (by omega)]
  have := rows21_le c hc v b (i + 3) j (by omega)
  push_cast
  rw [this]
  refine ⟨fun h i' h1 h2 => ?_, fun h => ⟨fun i' _ _ => h i' (by omega) (by omega), fun i' _ _ => h i' (by omega) (by omega)⟩⟩
  by_cases h3 : i' ≤ i
  · exact h.1 i' h1 h3
  · exact h.2 i' (by omega) (by omega)

/-- A row below the image is at least the three rows above it. -/
theorem rows_le_pad (v : FVec Ideal S515x512 φ) (b : EReal) (i j : ℤ) (h0 : 0 ≤ i) (hi : i < 515)
    (h : ext (rows c v) i j ≤ b) (i' : ℤ) (h1 : i - 3 ≤ i') (h2 : i' ≤ i) : ext v i' j ≤ b := by
  unfold rows rows3 at h
  rw [ext_max, max_le_iff, rows21_le c hc _ _ _ _ hi] at h
  exact h.1 i' h1 h2

theorem cols1_le (v : FVec Ideal S515x512 φ) (b : EReal) (i j : ℤ) (hj : j < 512) :
    ext (cols1 c v) i j ≤ b ↔ ∀ j', j - 1 ≤ j' → j' ≤ j → ext v i j' ≤ b := by
  unfold cols1
  rw [ext_max, ext_right (R := 515) (C := 512) (d := 1) (n := 511) c hc v _ _ rfl i j hj, max_le_iff]
  refine ⟨fun h j' h1 h2 => ?_, fun h => ⟨h _ (by omega) (by omega), h _ (by omega) (by omega)⟩⟩
  obtain rfl | rfl : j' = j ∨ j' = j - 1 := by omega
  · exact h.1
  · exact h.2

theorem cols2_le (v : FVec Ideal S515x512 φ) (b : EReal) (i j : ℤ) (hj : j < 512) :
    ext (cols2 c v) i j ≤ b ↔ ext v i j ≤ b ∧ ext v i (j - 2) ≤ b := by
  unfold cols2
  rw [ext_max, ext_right (R := 515) (C := 512) (d := 2) (n := 510) c hc v _ _ rfl i j hj, max_le_iff]
  rfl

theorem cols21_le (v : FVec Ideal S515x512 φ) (b : EReal) (i j : ℤ) (hj : j < 512) :
    ext (cols2 c (cols1 c v)) i j ≤ b ↔ ∀ j', j - 3 ≤ j' → j' ≤ j → ext v i j' ≤ b := by
  rw [cols2_le c hc _ _ _ _ hj, cols1_le c hc _ _ _ _ hj, cols1_le c hc _ _ _ _ (by omega)]
  refine ⟨fun h j' h1 h2 => ?_, fun h => ⟨fun j' _ _ => h j' (by omega) (by omega), fun j' _ _ => h j' (by omega) (by omega)⟩⟩
  by_cases h3 : j - 1 ≤ j'
  · exact h.1 j' h3 h2
  · exact h.2 j' (by omega) (by omega)

/-- Before the last three columns the shifts have the seven columns. -/
theorem cols321_le (v : FVec Ideal S515x512 φ) (b : EReal) (i j : ℤ) (h0 : 0 ≤ j) (hj : j < 509) :
    ext (cols3 c (cols2 c (cols1 c v))) i j ≤ b ↔ ∀ j', j - 3 ≤ j' → j' ≤ j + 3 → ext v i j' ≤ b := by
  unfold cols3
  rw [ext_max, ext_left (R := 515) (C := 512) (d := 3) (n := 509) c hc _ _ _ rfl i j h0, max_le_iff, cols21_le c hc _ _ _ _ (by omega)]
  have := cols21_le c hc v b i (j + 3) (by omega)
  push_cast
  rw [this]
  refine ⟨fun h j' h1 h2 => ?_, fun h => ⟨fun j' _ _ => h j' (by omega) (by omega), fun j' _ _ => h j' (by omega) (by omega)⟩⟩
  by_cases h3 : j' ≤ j
  · exact h.1 j' h1 h3
  · exact h.2 j' (by omega) (by omega)

/-- In the last three columns they have at least the columns on the left. -/
theorem cols321_edge (v : FVec Ideal S515x512 φ) (b : EReal) (i j : ℤ) (h0 : 509 ≤ j) (hj : j < 512) :
    ext (cols3 c (cols2 c (cols1 c v))) i j ≤ b ↔ ∀ j', j - 3 ≤ j' → j' ≤ j → ext v i j' ≤ b := by
  unfold cols3
  rw [ext_max, ext_left (R := 515) (C := 512) (d := 3) (n := 509) c hc _ _ _ rfl i j (by omega), max_le_iff, cols21_le c hc _ _ _ _ (by omega),
    ext_out _ _ _ (by push_cast; omega)]
  simp

theorem edge128_le (e : FVec Ideal S515x128 φ) (b : EReal) (i j : ℤ) (h0 : 0 ≤ j) :
    ext (edge128 c e) i j ≤ b ↔ ∀ j', j ≤ j' → j' ≤ j + 3 → ext e i j' ≤ b := by
  unfold edge128
  simp only []
  rw [ext_max, ext_left (R := 515) (C := 128) (d := 2) (n := 126) c hc _ _ _ rfl i j h0, ext_max, ext_max, ext_left (R := 515) (C := 128) (d := 1) (n := 127) c hc _ _ _ rfl i _ h0,
    ext_left (R := 515) (C := 128) (d := 1) (n := 127) c hc _ _ _ rfl i _ (by omega)]
  simp only [max_le_iff]
  push_cast
  refine ⟨fun h j' h1 h2 => ?_, fun h => ⟨⟨h _ (by omega) (by omega), h _ (by omega) (by omega)⟩,
    h _ (by omega) (by omega), h _ (by omega) (by omega)⟩⟩
  obtain rfl | rfl | rfl | rfl : j' = j ∨ j' = j + 1 ∨ j' = j + 2 ∨ j' = j + 2 + 1 := by omega
  exacts [h.1.1, h.1.2, h.2.1, h.2.2]

theorem edge256_le (e : FVec Ideal S515x256 φ) (b : EReal) (i j : ℤ) (h0 : 0 ≤ j) :
    ext (edge256 c e) i j ≤ b ↔ ∀ j', j ≤ j' → j' ≤ j + 3 → ext e i j' ≤ b := by
  unfold edge256
  simp only []
  rw [ext_max, ext_left (R := 515) (C := 256) (d := 2) (n := 254) c hc _ _ _ rfl i j h0, ext_max, ext_max, ext_left (R := 515) (C := 256) (d := 1) (n := 255) c hc _ _ _ rfl i _ h0,
    ext_left (R := 515) (C := 256) (d := 1) (n := 255) c hc _ _ _ rfl i _ (by omega)]
  simp only [max_le_iff]
  push_cast
  refine ⟨fun h j' h1 h2 => ?_, fun h => ⟨⟨h _ (by omega) (by omega), h _ (by omega) (by omega)⟩,
    h _ (by omega) (by omega), h _ (by omega) (by omega)⟩⟩
  obtain rfl | rfl | rfl | rfl : j' = j ∨ j' = j + 1 ∨ j' = j + 2 ∨ j' = j + 2 + 1 := by omega
  exacts [h.1.1, h.1.2, h.2.1, h.2.2]

/-- What the two passes over the last columns have together. -/
theorem both_le (v : FVec Ideal S515x512 φ) (b : EReal) (i j : ℤ) (h0 : 0 ≤ j) (hj : j < 512) :
    (ext (cols3 c (cols2 c (cols1 c v))) i j ≤ b ∧ ∀ j', j ≤ j' → j' ≤ j + 3 → ext v i j' ≤ b)
      ↔ ∀ j', j - 3 ≤ j' → j' ≤ j + 3 → ext v i j' ≤ b := by
  by_cases h : j < 509
  · rw [cols321_le c hc _ _ _ _ h0 h]
    exact ⟨fun h => h.1, fun h => ⟨h, fun j' _ _ => h j' (by omega) (by omega)⟩⟩
  · rw [cols321_edge c hc _ _ _ _ (by omega) hj]
    refine ⟨fun h j' h1 h2 => ?_, fun h => ⟨fun j' _ _ => h j' (by omega) (by omega), fun j' _ _ => h j' (by omega) (by omega)⟩⟩
    by_cases h3 : j' ≤ j
    · exact h.1 j' h1 h3
    · exact h.2 j' (by omega) h2

/-- Each column takes its maximum over the seven columns around it. -/
theorem colsF_le (v : FVec Ideal S515x512 φ) (b : EReal) (i j : ℤ) (hi : 0 ≤ i ∧ i < 515) (h0 : 0 ≤ j) (hj : j < 512) :
    ext (colsF c v) i j ≤ b ↔ ∀ j', j - 3 ≤ j' → j' ≤ j + 3 → ext v i j' ≤ b := by
  unfold colsF
  simp only []
  rw [ext_concat1 (R := 515) (C := 512) (A := 384) (B := 128) _ _ _ rfl]
  split
  · next hlt =>
    push_cast at hlt
    rw [ext_slice, if_pos (by push_cast; omega)]
    push_cast
    rw [add_zero, add_zero, cols321_le c hc _ _ _ _ h0 (by omega)]
  · next hlt =>
    push_cast at hlt
    rw [ext_max, ext_slice, if_pos (by push_cast; omega), max_le_iff, edge128_le c hc _ _ _ _ (by push_cast; omega),
      ← both_le c hc v b i j h0 hj]
    push_cast
    rw [add_zero, sub_add_cancel]
    refine and_congr_right fun _ => ⟨fun h j' h1 h2 => ?_, fun h j' h1 h2 => ?_⟩
    · have := h (j' - 384) (by omega) (by omega)
      rw [ext_slice] at this
      split at this
      · push_cast at this
        rwa [add_zero, sub_add_cancel] at this
      · rw [ext_out _ _ _ (by push_cast; omega)]; exact bot_le
    · rw [ext_slice]
      split
      · push_cast
        rw [add_zero]
        exact h _ (by omega) (by omega)
      · exact bot_le

/-- Each column takes its maximum over the seven columns around it. -/
theorem colsH_le (v : FVec Ideal S515x512 φ) (b : EReal) (i j : ℤ) (hi : 0 ≤ i ∧ i < 515) (h0 : 0 ≤ j) (hj : j < 512) :
    ext (colsH c v) i j ≤ b ↔ ∀ j', j - 3 ≤ j' → j' ≤ j + 3 → ext v i j' ≤ b := by
  unfold colsH
  simp only []
  rw [ext_concat1 (R := 515) (C := 512) (A := 256) (B := 256) _ _ _ rfl]
  split
  · next hlt =>
    push_cast at hlt
    rw [ext_slice, if_pos (by push_cast; omega)]
    push_cast
    rw [add_zero, add_zero, cols321_le c hc _ _ _ _ h0 (by omega)]
  · next hlt =>
    push_cast at hlt
    rw [ext_max, ext_slice, if_pos (by push_cast; omega), max_le_iff, edge256_le c hc _ _ _ _ (by push_cast; omega),
      ← both_le c hc v b i j h0 hj]
    push_cast
    rw [add_zero, sub_add_cancel]
    refine and_congr_right fun _ => ⟨fun h j' h1 h2 => ?_, fun h j' h1 h2 => ?_⟩
    · have := h (j' - 256) (by omega) (by omega)
      rw [ext_slice] at this
      split at this
      · push_cast at this
        rwa [add_zero, sub_add_cancel] at this
      · rw [ext_out _ _ _ (by push_cast; omega)]; exact bot_le
    · rw [ext_slice]
      split
      · push_cast
        rw [add_zero]
        exact h _ (by omega) (by omega)
      · exact bot_le

/-- At a point of the image the kernel's pool of scores is the maximum over the points near by. -/
theorem poolF_le (v : FVec Ideal S515x512 φ) (b : EReal) (i j : ℤ) (h : InG i j) :
    ext (colsF c (rows c v)) i j ≤ b ↔ ∀ i' j', Near i j i' j' → ext v i' j' ≤ b := by
  obtain ⟨⟨hi0, hi⟩, hj0, hj⟩ := h
  rw [colsF_le c hc _ _ _ _ ⟨hi0, by omega⟩ hj0 hj]
  refine ⟨fun h i' j' hn => ?_, fun h j' h1 h2 => ?_⟩
  · exact (rows_le c hc _ _ _ _ hi0 hi).1 (h j' hn.2.1 hn.2.2) i' hn.1.1 hn.1.2
  · exact (rows_le c hc _ _ _ _ hi0 hi).2 fun i' h3 h4 => h i' j' ⟨⟨h3, h4⟩, h1, h2⟩

/-- Below the image it is at least every point of the image near by. -/
theorem poolF_pad (v : FVec Ideal S515x512 φ) (b : EReal) (i j : ℤ) (hP : InP i j) (hG : ¬ InG i j)
    (h : ext (colsF c (rows c v)) i j ≤ b) (i' j' : ℤ) (hg : InG i' j') (hn : Near i j i' j') : ext v i' j' ≤ b := by
  obtain ⟨hi, hj0, hj⟩ := hP
  rw [colsF_le c hc _ _ _ _ hi hj0 hj] at h
  unfold InG at hG hg
  exact rows_le_pad c hc _ _ _ _ hi.1 hi.2 (h j' hn.2.1 hn.2.2) i' hn.1.1 (by omega)

/-- At a point of the image the kernel's pool of a mask is the maximum over the points near by. -/
theorem poolH_le (v : FVec Ideal S515x512 φ) (b : EReal) (i j : ℤ) (h : InG i j) :
    ext (colsH c (rows c v)) i j ≤ b ↔ ∀ i' j', Near i j i' j' → ext v i' j' ≤ b := by
  obtain ⟨⟨hi0, hi⟩, hj0, hj⟩ := h
  rw [colsH_le c hc _ _ _ _ ⟨hi0, by omega⟩ hj0 hj]
  refine ⟨fun h i' j' hn => ?_, fun h j' h1 h2 => ?_⟩
  · exact (rows_le c hc _ _ _ _ hi0 hi).1 (h j' hn.2.1 hn.2.2) i' hn.1.1 hn.1.2
  · exact (rows_le c hc _ _ _ _ hi0 hi).2 fun i' h3 h4 => h i' j' ⟨⟨h3, h4⟩, h1, h2⟩

end

end Cert.Pool
-- ==== Proof.Block.lean ====
/-
  What the kernel computes of one image: the masks on a plane with three further rows of −∞ below the image, read at integer
  coordinates.
-/
module

public import proofs.«01_k».proof.Proof.Pool

@[expose] public section

noncomputable section

namespace Cert.Block

open Idealize.ShloMosaic Cert.KernelIdeal.Gen Cert.KernelIdeal Cert.Plane Cert.Suppress Cert.Pool

/-- −∞ in binary32. -/
abbrev cF : Ideal .f32 := Scalar.ofBits .f32 0xFF800000#32

/-- −∞ in bfloat16. -/
abbrev cH : Ideal .bf16 := Scalar.ofBits .bf16 0xFF80#16

/-- Scores of one image. -/
abbrev Img := FVec Ideal S512x512 .f32

/-- Scores of one image and three rows below. -/
abbrev Tall := FVec Ideal S515x512 .f32

/-- Marks on one image and three rows below. -/
abbrev Marks := IVec S515x512 1

/-- The zeros the image's scores are replaced by. -/
def zeros : Img := broadcast S512x512 (Scalar.ofBits .f32 0x00000000#32 : Ideal .f32)

/-- An image with three rows of −∞ below. -/
def pad (v : Img) : Tall :=
  concatenate S515x512 0 [⟨S512x512, v⟩, ⟨S3x512, broadcast S3x512 cF⟩] concatenates_S512x512_S3x512_S515x512_d0

/-- The marks where the scores equal their pool. -/
def peaks (v : Tall) : Marks := cmpf .oeq v (colsF cF (rows cF v))

/-- Marks as 0 and 1. -/
def real (m : Marks) : FVec Ideal S515x512 .bf16 :=
  truncf .bf16 (sitofp (F := Ideal) .f32 (extui 32 m natLt_1_32)) bitsLt_bf16_f32

/-- What marks suppress. -/
def sup (m : Marks) : Marks :=
  cmpf .ogt (colsH cH (rows cH (real m))) (broadcast S515x512 (Scalar.ofBits .bf16 0x0000#16 : Ideal .bf16))

/-- The scores left, 0 where suppressed. -/
def left (x : Img) (s : Marks) : Tall :=
  pad (select (extractStridedSlice S512x512 ![0, 0] s slices_S515x512_o0_0_S512x512) zeros x)

/-- One more round. -/
def next (x : Img) (m : Marks) : Marks :=
  ori m (andi (peaks (left x (sup m))) (xori (sup m) (constantI S515x512 1 1#1)))

/-- The scores at the marks `m`, 0 elsewhere. -/
def keep (x : Img) (m : Marks) : Img :=
  select (extractStridedSlice S512x512 ![0, 0] m slices_S515x512_o0_0_S512x512) x zeros

/-- The scores at the marks after two rounds, 0 elsewhere. -/
def out (x : Img) : Img := keep x (next x (next x (peaks (pad x))))

theorem pay4_eq (v0 : Vec Ideal S1x1x512x512 .f32) : k0_pay4 v0 = peaks (pad (k0_pay2 v0)) := rfl

theorem pay5_eq (v0 : Vec Ideal S1x1x512x512 .f32) : k0_pay5 v0 = real (k0_pay4 v0) := rfl

theorem pay6_eq (m : Marks) : k0_pay6 (real m) cH = sup m := rfl

theorem pay7_eq (x : Img) (m : Marks) : k0_pay7 x k0_pay3 (real m) cH = left x (sup m) := rfl

theorem pay8_eq (x : Img) (m : Marks) : k0_pay8 x k0_pay3 (real m) cH = rows1 cF (left x (sup m)) := rfl

theorem pay10_eq (x : Img) (m : Marks) : k0_pay10 x k0_pay3 (real m) cH
    = extractStridedSlice S513x512 ![0, 0] (rows1 cF (left x (sup m))) slices_S515x512_o0_0_S513x512 := rfl

theorem pay11_eq (x : Img) (m : Marks) : k0_pay11 m (sup m) (left x (sup m)) (rows1 cF (left x (sup m))) (k0_pay9 (F := Ideal))
    (extractStridedSlice S513x512 ![0, 0] (rows1 cF (left x (sup m))) slices_S515x512_o0_0_S513x512) = next x m := rfl

theorem pay12_eq (a b : Marks) (u v : Tall) (w : FVec Ideal S2x512 .f32) (y : FVec Ideal S513x512 .f32) :
    k0_pay12 a b u v w y = rows cH (real (k0_pay11 a b u v w y)) := rfl

theorem pay13_eq (m : Marks) : k0_pay13 (rows cH (real m)) = sup m := rfl

theorem pay14_eq (x : Img) (m : Marks) : k0_pay14 x k0_pay3 (rows cH (real m)) = left x (sup m) := rfl

theorem pay15_eq (x : Img) (m : Marks) : k0_pay15 x k0_pay3 (rows cH (real m)) = rows cF (left x (sup m)) := rfl

theorem pay16_eq (x : Img) (m : Marks) : k0_pay16 x k0_pay3 (rows cH (real m)) = cols1 cF (rows cF (left x (sup m))) := rfl

theorem pay1_eq (x : Img) (m : Marks) : k0_pay1 x m (sup m) (left x (sup m)) (rows cF (left x (sup m)))
    (cols1 cF (rows cF (left x (sup m)))) (k0_pay17 (F := Ideal))
      = shapeCast S1x1x512x512 (keep x (next x m)) shapeCasts_S512x512_S1x1x512x512 := rfl

/-- Marks at integer coordinates. -/
def On (m : Marks) (i j : ℤ) : Prop :=
  ∃ h : InP i j, m (ix2 ⟨i.toNat, by unfold InP at h; omega⟩ ⟨j.toNat, by unfold InP at h; omega⟩) = 1

theorem on_in (m : Marks) (a : Fin 515) (b : Fin 512) (i j : ℤ) (hi : i = a.val) (hj : j = b.val) :
    On m i j ↔ m (ix2 a b) = 1 := by
  subst hi hj
  exact ⟨fun ⟨_, h⟩ => h, fun h => ⟨by unfold InP; omega, h⟩⟩

/-- Coordinates on the image or in the rows below are those of an index. -/
theorem exists_idx {i j : ℤ} (h : InP i j) : ∃ (a : Fin 515) (b : Fin 512), i = a.val ∧ j = b.val := by
  obtain ⟨a, ha⟩ := exists_fin (n := 515) h.1.1 h.1.2
  obtain ⟨b, hb⟩ := exists_fin (n := 512) h.2.1 h.2.2
  exact ⟨a, b, ha, hb⟩

theorem inP_of_inG {i j : ℤ} (h : InG i j) : InP i j := by unfold InG at h; unfold InP; omega

/-- The padded image is the image, −∞ elsewhere. -/
theorem ext_pad (v : Img) (i j : ℤ) : ext (pad v) i j = ext v i j := by
  unfold pad
  rw [ext_concat0 (R := 515) (C := 512) (A := 512) (B := 3) _ _ _ rfl]
  split
  · rfl
  · next h => rw [ext_bot cF neg_inf_f32, ext_out v i j (by push_cast at *; omega)]

/-- A mark as 0 or 1 is positive exactly where there is one. -/
theorem mark_pos (m : Marks) (i j : ℤ) : ext (real m) i j ≤ 0 ↔ ¬ On m i j := by
  by_cases h : InP i j
  · obtain ⟨p, q, hi, hj⟩ := exists_idx h
    rw [ext_in _ p q _ _ hi hj, on_in _ p q _ _ hi hj]
    show (((((m (ix2 p q)).setWidth 32).toInt : ℝ) : EReal) ≤ 0) ↔ _
    generalize m (ix2 p q) = w
    obtain rfl | rfl : w = 0#1 ∨ w = 1#1 := by revert w; decide
    · simp
    · simp
  · rw [ext_out _ _ _ (by unfold InP at h; exact_mod_cast h)]
    exact ⟨fun _ ⟨hg, _⟩ => h hg, fun _ => bot_le⟩

/-- What marks suppress on the image: every point with a mark near by, on the image or below. -/
theorem on_sup (m : Marks) (i j : ℤ) (h : InG i j) :
    On (sup m) i j ↔ ∃ i' j', InP i' j' ∧ Near i j i' j' ∧ On m i' j' := by
  have hp := poolH_le cH neg_inf_bf16 (real m) 0 i j h
  obtain ⟨p, q, hi, hj⟩ := exists_idx (inP_of_inG h)
  rw [on_in _ p q _ _ hi hj]
  refine (Ideal.cmp_ogt_eq_one (x := colsH cH (rows cH (real m)) (ix2 p q))
    (y := Ideal.ofBits .bf16 0x0000#16)).trans ?_
  rw [Ideal.ofBits_zero_bf16, ← ext_in (colsH cH (rows cH (real m))) p q _ _ hi hj, ← not_le, hp]
  constructor
  · intro hh
    by_contra hne
    refine hh fun i' j' hn => (mark_pos m i' j').2 fun ho => hne ⟨i', j', ho.1, hn, ho⟩
  · rintro ⟨i', j', -, hn, ho⟩ hh
    exact (mark_pos m i' j').1 (hh i' j' hn) ho

/-- The marks of equality with the pool, read as extended reals. -/
theorem on_peaks (v : Tall) (i j : ℤ) (h : InP i j) :
    On (peaks v) i j ↔ ext v i j = ext (colsF cF (rows cF v)) i j := by
  obtain ⟨p, q, hi, hj⟩ := exists_idx h
  rw [on_in _ p q _ _ hi hj, ext_in _ p q _ _ hi hj, ext_in _ p q _ _ hi hj]
  exact Ideal.cmp_oeq_eq_one _ _

/-- On the image, the marks of equality with the pool are the peaks. -/
theorem on_peaks_in (v : Tall) (i j : ℤ) (h : InG i j) : On (peaks v) i j ↔ Peak (ext v) i j := by
  rw [on_peaks v i j (inP_of_inG h)]
  have hp := fun b => poolF_le cF neg_inf_f32 v b i j h
  exact ⟨fun e => (hp _).1 e.symm.le, fun hpk => le_antisymm ((hp _).1 le_rfl i j (Near.refl i j)) ((hp _).2 hpk)⟩

/-- Below the image, a mark on −∞ has −∞ all around on the image. -/
theorem on_peaks_pad (v : Tall) (i j : ℤ) (h : InP i j) (hg : ¬ InG i j) (hv : ext v i j = ⊥) (ho : On (peaks v) i j)
    (i' j' : ℤ) (hg' : InG i' j') (hn : Near i j i' j') : ext v i' j' = ⊥ := by
  rw [on_peaks v i j h, hv] at ho
  exact le_bot_iff.1 (poolF_pad cF neg_inf_f32 v ⊥ i j h hg ho.symm.le i' j' hg' hn)

/-- On the image, what is left: 0 where suppressed. -/
theorem left_on (x : Img) (s : Marks) (i j : ℤ) (h : InG i j) (hs : On s i j) : ext (left x s) i j = 0 := by
  unfold left
  rw [ext_pad]
  obtain ⟨p, hp⟩ := exists_fin (n := 512) h.1.1 h.1.2
  obtain ⟨q, hq⟩ := exists_fin (n := 512) h.2.1 h.2.2
  rw [on_in _ ⟨p.val, by omega⟩ q _ _ hp hq] at hs
  rw [ext_in _ p q _ _ hp hq]
  refine (if_pos (Eq.trans (congrArg s (funext fun a => ?_)) hs)).trans Ideal.ofBits_zero_f32
  match a with
  | ⟨0, _⟩ => exact Fin.ext (Nat.zero_add _)
  | ⟨1, _⟩ => exact Fin.ext (Nat.zero_add _)

/-- On the image, what is left: the score where not suppressed. -/
theorem left_off (x : Img) (s : Marks) (i j : ℤ) (h : InG i j) (hs : ¬ On s i j) : ext (left x s) i j = ext x i j := by
  unfold left
  rw [ext_pad]
  obtain ⟨p, hp⟩ := exists_fin (n := 512) h.1.1 h.1.2
  obtain ⟨q, hq⟩ := exists_fin (n := 512) h.2.1 h.2.2
  rw [on_in _ ⟨p.val, by omega⟩ q _ _ hp hq] at hs
  rw [ext_in _ p q _ _ hp hq, ext_in _ p q _ _ hp hq]
  refine if_neg fun e => hs (Eq.trans (congrArg s (funext fun a => ?_)) e)
  match a with
  | ⟨0, _⟩ => exact Fin.ext (Nat.zero_add _).symm
  | ⟨1, _⟩ => exact Fin.ext (Nat.zero_add _).symm

/-- Off the image, what is left is −∞. -/
theorem left_out (x : Img) (s : Marks) (i j : ℤ) (h : ¬ InG i j) : ext (left x s) i j = ⊥ := by
  unfold left
  rw [ext_pad, ext_out _ _ _ (by unfold InG at h; exact_mod_cast h)]

/-- The marks after one more round. -/
theorem on_next (x : Img) (m : Marks) (i j : ℤ) (h : InP i j) :
    On (next x m) i j ↔ (On m i j ∨ (On (peaks (left x (sup m))) i j ∧ ¬ On (sup m) i j)) := by
  obtain ⟨p, q, hi, hj⟩ := exists_idx h
  rw [on_in _ p q _ _ hi hj, on_in _ p q _ _ hi hj, on_in _ p q _ _ hi hj, on_in _ p q _ _ hi hj]
  show (m (ix2 p q) ||| (peaks (left x (sup m)) (ix2 p q) &&& (sup m (ix2 p q) ^^^ 1#1))) = 1#1 ↔ _
  generalize m (ix2 p q) = a
  generalize peaks (left x (sup m)) (ix2 p q) = b
  generalize sup m (ix2 p q) = c
  revert a b c
  decide

/-- What is kept at a point: the score where there is a mark, else 0. -/
theorem keep_apply (x : Img) (m : Marks) (p q : Fin 512) :
    (On m p.val q.val → (keep x m (ix2 p q) : EReal) = x (ix2 p q)) ∧ (¬ On m p.val q.val → (keep x m (ix2 p q) : EReal) = 0) := by
  have hon := on_in m ⟨p.val, by omega⟩ q p.val q.val rfl rfl
  have e : extractStridedSlice S512x512 ![0, 0] m slices_S515x512_o0_0_S512x512 (ix2 p q) = m (ix2 ⟨p.val, by omega⟩ q) :=
    congrArg m (funext fun a => by
      match a with
      | ⟨0, _⟩ => exact Fin.ext (Nat.zero_add _)
      | ⟨1, _⟩ => exact Fin.ext (Nat.zero_add _))
  exact ⟨fun h => if_pos (e.trans (hon.1 h)),
    fun h => (if_neg fun h' => h (hon.2 (e.symm.trans h'))).trans Ideal.ofBits_zero_f32⟩

end Cert.Block
-- ==== Proof.Reference.lean ====
/-
  What the reference computes: each image's maximum over seven by seven windows, the mask of peaks, what a mask suppresses,
  and the next mask, read at integer coordinates of one image.
-/
module

public import proofs.«01_k».proof.Proof.Gen.ReferenceIdeal.Run
public import proofs.«01_k».proof.Proof.Plane
public import proofs.«01_k».proof.Proof.Suppress

@[expose] public section

noncomputable section

namespace Cert.Reference

open Idealize.ShloMosaic Cert.ReferenceIdeal.Gen Cert.ReferenceIdeal Cert.Plane Cert.Suppress

/-- An array of scores. -/
abbrev Scores := FVec Ideal S16x1x512x512 .f32

/-- An array of marks. -/
abbrev Marks := IVec S16x1x512x512 1

/-- The array of zeros. -/
def zeros : Scores := broadcastInDim S16x1x512x512 ![] bcast_S_S16x1x512x512 (constant (F := Ideal) S_ .f32 0x00000000#32)

/-- The maximum over seven by seven windows, padded with −∞. -/
def pool (v : Scores) : Scores :=
  Host.reduceWindow FloatOps.maximumf ![1, 1, 7, 7] ![1, 1, 1, 1] ![0, 0, 3, 3] ![0, 0, 3, 3] v
    (broadcastInDim S_ ![] bcast_S_S_ (constant (F := Ideal) S_ .f32 0xFF800000#32))
    reduceWindows_S16x1x512x512_S16x1x512x512_w1s1p0_0_w1s1p0_0_w7s1p3_3_w7s1p3_3 h_S_

/-- The marks where the scores equal their pool. -/
def peaks (v : Scores) : Marks := cmpf .oeq v (pool v)

/-- What the marks `m` suppress: wherever a mark is near. -/
def sup (m : Marks) : Marks := cmpf .ogt (pool (uitofp .f32 m)) zeros

/-- The scores left, 0 where suppressed. -/
def left (x : Scores) (s : Marks) : Scores := select s zeros x

/-- One more round: the marks and the peaks among the scores left that are not suppressed. -/
def next (x : Scores) (m : Marks) : Marks := ori m (andi (peaks (left x (sup m))) (noti (sup m)))

/-- The scores at the marks after two rounds, 0 elsewhere. -/
def out (x : Scores) : Scores := select (next x (next x (peaks x))) x zeros

/-- What the reference's run leaves is `out` of its argument. -/
theorem res_eq (m : (ℓ : Loc nD τ sig) → Buf (Elt Ideal) ℓ) (c : Dev nD) :
    Value.res_main_v28 m c = out (m ((c.tc : Thread nD τ).loc main_arg0)) := rfl

/-- Image `n` of an array of scores at integer coordinates, −∞ off the image. -/
def plane (v : Scores) (n : Fin 16) (i j : ℤ) : EReal :=
  if h : InG i j then v (ix4 n 0 ⟨i.toNat, by unfold InG at h; omega⟩ ⟨j.toNat, by unfold InG at h; omega⟩) else ⊥

/-- Image `n` of an array of marks has one at integer coordinates. -/
def On (m : Marks) (n : Fin 16) (i j : ℤ) : Prop :=
  ∃ h : InG i j, m (ix4 n 0 ⟨i.toNat, by unfold InG at h; omega⟩ ⟨j.toNat, by unfold InG at h; omega⟩) = 1

theorem inG_fin (a b : Fin 512) : InG a.val b.val := by unfold InG; omega

theorem plane_in (v : Scores) (n : Fin 16) (a b : Fin 512) (i j : ℤ) (hi : i = a.val) (hj : j = b.val) :
    plane v n i j = v (ix4 n 0 a b) := by
  subst hi hj
  unfold plane
  rw [dif_pos (inG_fin a b)]
  rfl

theorem plane_out (v : Scores) (n : Fin 16) (i j : ℤ) (h : ¬ InG i j) : plane v n i j = ⊥ := dif_neg h

theorem on_in (m : Marks) (n : Fin 16) (a b : Fin 512) (i j : ℤ) (hi : i = a.val) (hj : j = b.val) :
    On m n i j ↔ m (ix4 n 0 a b) = 1 := by
  subst hi hj
  exact ⟨fun ⟨_, h⟩ => h, fun h => ⟨inG_fin a b, h⟩⟩

/-- Coordinates on the image are those of an index. -/
theorem exists_idx {i j : ℤ} (h : InG i j) : ∃ a b : Fin 512, i = a.val ∧ j = b.val := by
  obtain ⟨a, ha⟩ := exists_fin (n := 512) h.1.1 h.1.2
  obtain ⟨b, hb⟩ := exists_fin (n := 512) h.2.1 h.2.2
  exact ⟨a, b, ha, hb⟩

/-- A fold of maxima is at most `b` when its start and every element are. -/
theorem foldl_max_le {ι : Type} (l : List ι) (g : ι → EReal) (v b : EReal) :
    l.foldl (fun r n => max r (g n)) v ≤ b ↔ v ≤ b ∧ ∀ n ∈ l, g n ≤ b := by
  induction l generalizing v with
  | nil => simp
  | cons a l ih => rw [List.foldl_cons, ih, max_le_iff]; simp [and_assoc]

/-- The windows' positions. -/
abbrev Win : Shape := ⟨4, ![1, 1, 7, 7]⟩

/-- The element a window around `(p, q)` of image `n` has at its position `k`: `z` off the image. -/
def elem (z : EReal) (v : Scores) (n : Fin 16) (p q : Fin 512) (k : Win.Idx) : EReal :=
  if hin : ∀ a : Fin 4, (![0, 0, 3, 3] : Fin 4 → ℕ) a ≤ ((ix4 n (0 : Fin 1) p q : S16x1x512x512.Idx) a).val * (![1, 1, 1, 1] : Fin 4 → ℕ) a + (k a).val
      ∧ ((ix4 n (0 : Fin 1) p q : S16x1x512x512.Idx) a).val * (![1, 1, 1, 1] : Fin 4 → ℕ) a + (k a).val - (![0, 0, 3, 3] : Fin 4 → ℕ) a < S16x1x512x512.size a then
    v fun a => ⟨((ix4 n (0 : Fin 1) p q : S16x1x512x512.Idx) a).val * (![1, 1, 1, 1] : Fin 4 → ℕ) a + (k a).val - (![0, 0, 3, 3] : Fin 4 → ℕ) a, (hin a).2⟩
  else z

/-- Every position of a window on the image has a point near by, and every other one −∞. -/
theorem elem_eq (v : Scores) (n : Fin 16) (p q : Fin 512) (k : Win.Idx) :
    elem ⊥ v n p q k = plane v n (p.val + (k 2).val - 3) (q.val + (k 3).val - 3) := by
  have h0 : (k 0).val < 1 := (k 0).isLt
  have h1 : (k 1).val < 1 := (k 1).isLt
  unfold elem
  split
  · next hin =>
    have d2 : 3 ≤ p.val * 1 + (k 2).val ∧ p.val * 1 + (k 2).val - 3 < 512 := hin 2
    have d3 : 3 ≤ q.val * 1 + (k 3).val ∧ q.val * 1 + (k 3).val - 3 < 512 := hin 3
    rw [plane_in v n ⟨p.val * 1 + (k 2).val - 3, d2.2⟩ ⟨q.val * 1 + (k 3).val - 3, d3.2⟩ _ _
      (by simp only []; omega) (by simp only []; omega)]
    refine congrArg v (funext fun x => ?_)
    match x with
    | ⟨0, _⟩ => exact Fin.ext (by show n.val * 1 + (k 0).val - 0 = n.val; omega)
    | ⟨1, _⟩ => exact Subsingleton.elim (α := Fin 1) _ _
    | ⟨2, _⟩ => rfl
    | ⟨3, _⟩ => rfl
  · next hin =>
    refine (plane_out _ _ _ _ fun hg => hin fun x => ?_).symm
    unfold InG at hg
    match x with
    | ⟨0, _⟩ => show 0 ≤ n.val * 1 + (k 0).val ∧ n.val * 1 + (k 0).val - 0 < 16; omega
    | ⟨1, _⟩ => show 0 ≤ 0 * 1 + (k 1).val ∧ 0 * 1 + (k 1).val - 0 < 1; omega
    | ⟨2, _⟩ => show 3 ≤ p.val * 1 + (k 2).val ∧ p.val * 1 + (k 2).val - 3 < 512; omega
    | ⟨3, _⟩ => show 3 ≤ q.val * 1 + (k 3).val ∧ q.val * 1 + (k 3).val - 3 < 512; omega

theorem init_eq : (broadcastInDim S_ ![] bcast_S_S_ (constant (F := Ideal) S_ .f32 0xFF800000#32) (Shape.Idx.first h_S_) : EReal) = ⊥ :=
  neg_inf_f32

/-- The pool at a point is at most `b` exactly when every position of its window is. -/
theorem pool_apply (v : Scores) (n : Fin 16) (p q : Fin 512) (b : EReal) :
    (pool v (ix4 n 0 p q) : EReal) ≤ b ↔ ∀ w : Fin Win.numel, elem ⊥ v n p q (Win.rowMajor.symm w) ≤ b := by
  refine (foldl_max_le _ _ _ _).trans ?_
  rw [init_eq]
  constructor
  · rintro ⟨-, hall⟩ w
    refine le_of_eq_of_le ?_ (hall w (List.mem_finRange w))
    unfold elem
    congr
  · intro hall
    refine ⟨bot_le, fun w _ => le_of_eq_of_le ?_ (hall w)⟩
    unfold elem
    congr

/-- The pool at a point is the maximum over the points near by. -/
theorem pool_le (v : Scores) (n : Fin 16) (b : EReal) (i j : ℤ) (h : InG i j) :
    plane (pool v) n i j ≤ b ↔ ∀ i' j', Near i j i' j' → plane v n i' j' ≤ b := by
  obtain ⟨p, q, rfl, rfl⟩ := exists_idx h
  rw [plane_in _ n p q _ _ rfl rfl, pool_apply]
  constructor
  · rintro hall i' j' ⟨hn1, hn2⟩
    let k : Win.Idx := ix4 (0 : Fin 1) (0 : Fin 1) (⟨(i' + 3 - p.val).toNat, by omega⟩ : Fin 7)
      (⟨(j' + 3 - q.val).toNat, by omega⟩ : Fin 7)
    have hk := hall (Win.rowMajor k)
    rw [Equiv.symm_apply_apply, elem_eq] at hk
    have e2 : ((p.val : ℤ) + (k 2).val - 3) = i' := by
      show (p.val : ℤ) + ((i' + 3 - p.val).toNat : ℕ) - 3 = i'
      omega
    have e3 : ((q.val : ℤ) + (k 3).val - 3) = j' := by
      show (q.val : ℤ) + ((j' + 3 - q.val).toNat : ℕ) - 3 = j'
      omega
    rwa [e2, e3] at hk
  · intro hall w
    rw [elem_eq]
    have h2 : ((Win.rowMajor.symm w) 2).val < 7 := ((Win.rowMajor.symm w) 2).isLt
    have h3 : ((Win.rowMajor.symm w) 3).val < 7 := ((Win.rowMajor.symm w) 3).isLt
    exact hall _ _ (by unfold Near; omega)

theorem le_pool (v : Scores) (n : Fin 16) (i j : ℤ) (h : InG i j) : plane v n i j ≤ plane (pool v) n i j :=
  (pool_le v n _ i j h).1 le_rfl i j (Near.refl i j)

/-- A point equals its pool exactly when it is a peak. -/
theorem on_peaks (v : Scores) (n : Fin 16) (i j : ℤ) (h : InG i j) : On (peaks v) n i j ↔ Peak (plane v n) i j := by
  have hle := le_pool v n i j h
  have hp := pool_le v n (plane v n i j) i j h
  obtain ⟨p, q, hi, hj⟩ := exists_idx h
  rw [on_in _ n p q _ _ hi hj]
  refine (Ideal.cmp_oeq_eq_one (x := v (ix4 n 0 p q)) (y := pool v (ix4 n 0 p q))).trans ?_
  rw [← plane_in v n p q _ _ hi hj, ← plane_in (pool v) n p q _ _ hi hj]
  exact ⟨fun e => hp.1 e.symm.le, fun hpk => le_antisymm hle (hp.2 hpk)⟩

/-- A mark as 0 or 1 is positive exactly where there is one. -/
theorem mark_pos (m : Marks) (n : Fin 16) (i j : ℤ) : plane (uitofp .f32 m) n i j ≤ 0 ↔ ¬ On m n i j := by
  by_cases h : InG i j
  · obtain ⟨p, q, hi, hj⟩ := exists_idx h
    rw [plane_in _ n p q _ _ hi hj, on_in _ n p q _ _ hi hj]
    show ((((m (ix4 n 0 p q)).toNat : ℝ) : EReal) ≤ 0) ↔ _
    generalize m (ix4 n 0 p q) = w
    obtain rfl | rfl : w = 0#1 ∨ w = 1#1 := by revert w; decide
    · simp
    · simp
  · rw [plane_out _ _ _ _ h]
    exact ⟨fun _ ⟨hg, _⟩ => h hg, fun _ => bot_le⟩

/-- What marks suppress: every point of the image with a mark near by. -/
theorem on_sup (m : Marks) (n : Fin 16) (i j : ℤ) (h : InG i j) :
    On (sup m) n i j ↔ ∃ i' j', InG i' j' ∧ Near i j i' j' ∧ On m n i' j' := by
  have hp := pool_le (uitofp .f32 m) n 0 i j h
  obtain ⟨p, q, hi, hj⟩ := exists_idx h
  rw [on_in _ n p q _ _ hi hj]
  refine (Ideal.cmp_ogt_eq_one (x := pool (uitofp .f32 m) (ix4 n 0 p q)) (y := zeros (ix4 n 0 p q))).trans ?_
  have hz : (zeros (ix4 n 0 p q) : EReal) = 0 := Ideal.ofBits_zero_f32
  rw [hz, ← plane_in (pool (uitofp .f32 m)) n p q _ _ hi hj, ← not_le, hp]
  constructor
  · intro hh
    by_contra hne
    refine hh fun i' j' hn => (mark_pos m n i' j').2 fun ho => hne ⟨i', j', ho.1, hn, ho⟩
  · rintro ⟨i', j', -, hn, ho⟩ hh
    exact (mark_pos m n i' j').1 (hh i' j' hn) ho

theorem left_on (x : Scores) (s : Marks) (n : Fin 16) (i j : ℤ) (h : InG i j) (hs : On s n i j) :
    plane (left x s) n i j = 0 := by
  obtain ⟨p, q, hi, hj⟩ := exists_idx h
  rw [on_in _ n p q _ _ hi hj] at hs
  rw [plane_in _ n p q _ _ hi hj]
  exact (if_pos hs).trans Ideal.ofBits_zero_f32

theorem left_off (x : Scores) (s : Marks) (n : Fin 16) (i j : ℤ) (h : InG i j) (hs : ¬ On s n i j) :
    plane (left x s) n i j = plane x n i j := by
  obtain ⟨p, q, hi, hj⟩ := exists_idx h
  rw [on_in _ n p q _ _ hi hj] at hs
  rw [plane_in _ n p q _ _ hi hj, plane_in _ n p q _ _ hi hj]
  exact if_neg hs

/-- The marks after one more round. -/
theorem on_next (x : Scores) (m : Marks) (n : Fin 16) (i j : ℤ) (h : InG i j) :
    On (next x m) n i j ↔ (On m n i j ∨ (Peak (plane (left x (sup m)) n) i j ∧ ¬ On (sup m) n i j)) := by
  rw [← on_peaks _ n i j h]
  obtain ⟨p, q, hi, hj⟩ := exists_idx h
  rw [on_in _ n p q _ _ hi hj, on_in _ n p q _ _ hi hj, on_in _ n p q _ _ hi hj, on_in _ n p q _ _ hi hj]
  show (m (ix4 n 0 p q) ||| (peaks (left x (sup m)) (ix4 n 0 p q) &&& ~~~ sup m (ix4 n 0 p q))) = 1#1 ↔ _
  generalize m (ix4 n 0 p q) = a
  generalize peaks (left x (sup m)) (ix4 n 0 p q) = b
  generalize sup m (ix4 n 0 p q) = c
  revert a b c
  decide

/-- What the reference returns at a point: the score where there is a mark after two rounds, else 0. -/
theorem out_apply (x : Scores) (n : Fin 16) (p q : Fin 512) [Decidable (On (next x (next x (peaks x))) n p.val q.val)] :
    (out x (ix4 n 0 p q) : EReal) = if On (next x (next x (peaks x))) n p.val q.val then x (ix4 n 0 p q) else 0 := by
  have hon := on_in (next x (next x (peaks x))) n p q _ _ rfl rfl
  split
  · next h => exact if_pos (hon.1 h)
  · next h => exact (if_neg fun h' => h (hon.2 h')).trans Ideal.ofBits_zero_f32

end Cert.Reference
-- ==== Proof.Equation.lean ====
/-
  The kernel's block of an image is the reference's: the two masks agree on the image after each round, and a mark below the
  image only ever has −∞ around it.
-/
module

public import proofs.«01_k».proof.Proof.Block
public import proofs.«01_k».proof.Proof.Reference

@[expose] public section

noncomputable section

namespace Cert.Equation

open Idealize.ShloMosaic Cert.Plane Cert.Suppress

variable (x : Reference.Scores) (n : Fin 16) (y : Block.Img)

/-- What holds of the reference's marks `m` and the kernel's `M` of image `n` after each round: they agree on the image, every
    peak is marked, and a mark below the image has only −∞ near by. -/
structure Agree (m : Reference.Marks) (M : Block.Marks) : Prop where
  same : ∀ i j, InG i j → (Block.On M i j ↔ Reference.On m n i j)
  peak : ∀ i j, InG i j → Peak (Reference.plane x n) i j → Reference.On m n i j
  below : ∀ i j, InP i j → ¬ InG i j → Block.On M i j → ∀ i' j', InG i' j' → Near i j i' j' → Reference.plane x n i' j' = ⊥

variable (hy : ∀ i j, ext y i j = Reference.plane x n i j)
include hy

/-- The first marks agree. -/
theorem agree_first : Agree x n (Reference.peaks x) (Block.peaks (Block.pad y)) := by
  have he : ext (Block.pad y) = Reference.plane x n := by
    funext i j
    rw [Block.ext_pad, hy]
  refine ⟨fun i j h => ?_, fun i j h hp => (Reference.on_peaks x n i j h).2 hp, fun i j h hg ho i' j' hg' hn => ?_⟩
  · rw [Block.on_peaks_in _ i j h, Reference.on_peaks x n i j h, he]
  · rw [← he]
    exact Block.on_peaks_pad _ i j h hg (by rw [he]; exact Reference.plane_out _ _ _ _ hg) ho i' j' hg' hn

/-- One more round keeps the agreement. -/
theorem agree_next (m : Reference.Marks) (M : Block.Marks) (h : Agree x n m M) :
    Agree x n (Reference.next x m) (Block.next y M) := by
  refine ⟨fun i j hg => ?_, fun i j hg hp => (Reference.on_next x m n i j hg).2 (.inl (h.peak i j hg hp)),
    fun i j hP hg ho i' j' hg' hn => ?_⟩
  · rw [Reference.on_next x m n i j hg, Block.on_next y M i j (Block.inP_of_inG hg), Block.on_peaks_in _ i j hg]
    exact step_iff (Reference.plane x n) (Reference.plane (Reference.left x (Reference.sup m)) n) (ext (Block.left y (Block.sup M)))
      (Reference.On m n) (Block.On M) (Reference.On (Reference.sup m) n) (Block.On (Block.sup M))
      (fun i j hg => Reference.plane_out _ _ _ _ hg) h.same h.peak h.below
      (fun i j hg => Reference.on_sup m n i j hg) (fun i j hg => Block.on_sup M i j hg)
      (fun i j hg hs => Reference.left_on x _ n i j hg hs) (fun i j hg hs => Reference.left_off x _ n i j hg hs)
      (fun i j hg => Reference.plane_out _ _ _ _ hg)
      (fun i j hg hs => Block.left_on y _ i j hg hs) (fun i j hg hs => (Block.left_off y _ i j hg hs).trans (hy i j))
      (fun i j hg => Block.left_out y _ i j hg) i j hg
  · rcases (Block.on_next y M i j hP).1 ho with ho | ⟨ho, -⟩
    · exact h.below i j hP hg ho i' j' hg' hn
    · have hb := Block.on_peaks_pad _ i j hP hg (Block.left_out y _ i j hg) ho i' j' hg' hn
      by_cases hs : Block.On (Block.sup M) i' j'
      · rw [Block.left_on y _ i' j' hg' hs] at hb
        exact absurd hb EReal.zero_ne_bot
      · rwa [Block.left_off y _ i' j' hg' hs, hy] at hb

/-- The kernel's block of image `n` is the reference's result at that image. -/
theorem out_eq (p q : Fin 512) : (Block.out y (ix2 p q) : EReal) = Reference.out x (ix4 n 0 p q) := by
  have h := (agree_next x n y hy _ _ (agree_next x n y hy _ _ (agree_first x n y hy))).same p.val q.val (Reference.inG_fin p q)
  have hx : (y (ix2 p q) : EReal) = x (ix4 n 0 p q) := by
    rw [← Plane.ext_in y p q _ _ rfl rfl, hy, Reference.plane_in x n p q _ _ rfl rfl]
  have hk := Block.keep_apply y (Block.next y (Block.next y (Block.peaks (Block.pad y)))) p q
  classical
  rw [Reference.out_apply]
  split
  · next ho => exact (hk.1 (h.2 ho)).trans hx
  · next ho => exact hk.2 fun ho' => ho (h.1 ho')

end Cert.Equation
-- ==== Proof.Result.lean ====
/-
  What the result array holds after the kernel's run: the reference's result, image by image.
-/
module

public import proofs.«01_k».proof.Proof.Gen.KernelIdeal.Value
public import proofs.«01_k».proof.Proof.Equation
public import Idealize.ShloMosaic.Lib.ValueLayout
public import Idealize.ShloMosaic.Lib.Pipeline.ValueKit

@[expose] public section

set_option maxRecDepth 16384

noncomputable section

namespace Cert.Result

open Idealize.ShloMosaic Idealize.ShloMosaic.TcCoe Idealize.SL.Sem Cert.KernelIdeal Cert.KernelIdeal.Gen

/-- A block without its two unit axes. -/
theorem squeeze_apply (v : Vec Ideal S1x1x512x512 .f32) (p q : Fin 512) :
    k0_pay2 v (ix2 p q) = v (ix4 0 0 p q) :=
  congrArg v (Shape.reshapeEquiv_eq_of_rowMajor _ (by
    rw [Shape.rowMajor_val_four, Shape.rowMajor_val_two]
    show ((0 * 1 + 0) * 512 + p.val) * 512 + q.val = p.val * 512 + q.val
    omega))

/-- A block from an image, the two unit axes put back. -/
theorem unsqueeze_apply (v : Block.Img) (y : S1x1x512x512.Idx) :
    shapeCast S1x1x512x512 v shapeCasts_S512x512_S1x1x512x512 y = v (ix2 (y 2) (y 3)) := by
  refine congrArg v (Shape.reshapeEquiv_eq_of_rowMajor _ ?_)
  rw [Shape.rowMajor_val_four, Shape.rowMajor_val_two]
  have h0 : (y 0).val < 1 := (y 0).isLt
  have h1 : (y 1).val < 1 := (y 1).isLt
  show (y 2).val * 512 + (y 3).val = (((y 0).val * 1 + (y 1).val) * 512 + (y 2).val) * 512 + (y 3).val
  omega

/-- The load of a whole block is the block. -/
theorem ld_eq (v : Vec Ideal S1x1x512x512 .f32) : View.ld v r0_0 = v :=
  View.ld_unit_zero (by decide) inb_S1x1x512x512_S1x1x512x512_0_0_0_0 v

/-- What the body writes is the block's image, suppressed. -/
theorem body_eq (v : Vec Ideal S1x1x512x512 .f32) :
    k0_pay1 (k0_pay18 v) (k0_pay11 (k0_pay20 v) (k0_pay22 v) (k0_pay23 v) (k0_pay24 v) (k0_pay25 v) (k0_pay26 v))
      (k0_pay13 (k0_pay27 v)) (k0_pay14 (k0_pay18 v) (k0_pay19 v) (k0_pay27 v))
      (k0_pay15 (k0_pay18 v) (k0_pay19 v) (k0_pay27 v)) (k0_pay16 (k0_pay18 v) (k0_pay19 v) (k0_pay27 v)) k0_pay17
      = shapeCast S1x1x512x512 (Block.out (k0_pay2 v)) shapeCasts_S512x512_S1x1x512x512 := by
  unfold k0_pay27 k0_pay26 k0_pay25 k0_pay24 k0_pay23 k0_pay22 k0_pay21 k0_pay20 k0_pay19 k0_pay18
  rw [ld_eq, Block.pay5_eq, Block.pay6_eq, Block.pay7_eq, Block.pay8_eq, Block.pay10_eq, Block.pay12_eq, Block.pay11_eq,
    Block.pay13_eq, Block.pay14_eq, Block.pay15_eq, Block.pay16_eq, Block.pay1_eq, Block.pay4_eq]
  rfl

variable (m : (ℓ : Loc nD τ sig) → Buf (Elt Ideal) ℓ) (c : Dev nD)

theorem idx : ∀ t : Fin cfg0.N, win0_0.index t = ![(grid0.coords t 0).val, 0, 0, 0] ∧ win0_1.index t = ![(grid0.coords t 0).val, 0, 0, 0] :=
  (by decide +kernel : ∀ t : Fin grid0.N, _)

/-- The image grid point `t` works on. -/
def img (t : Fin cfg0.N) : Fin 16 := ⟨(grid0.coords t 0).val, (grid0.coords t 0).isLt⟩

/-- The block a grid point loads is its image of the argument. -/
theorem block_apply (t : Fin cfg0.N) (p q : Fin 512) :
    (iblk m c 0 t : Vec Ideal S1x1x512x512 .f32) (ix4 0 0 p q) = m ((c : Thread nD τ).loc main_arg0) (ix4 (img t) 0 p q) := by
  blk_ext [iblk, V, idx t, img]

/-- The same at integer coordinates. -/
theorem block_plane (t : Fin cfg0.N) (i j : ℤ) :
    Plane.ext (k0_pay2 (iblk m c 0 t : Vec Ideal S1x1x512x512 .f32)) i j
      = Reference.plane (m ((c : Thread nD τ).loc main_arg0)) (img t) i j := by
  by_cases h : Suppress.InG i j
  · obtain ⟨p, q, hi, hj⟩ := Reference.exists_idx h
    rw [Plane.ext_in _ p q _ _ hi hj, Reference.plane_in _ _ p q _ _ hi hj, squeeze_apply]
    exact block_apply m c t p q
  · rw [Plane.ext_out _ _ _ (by unfold Suppress.InG at h; exact_mod_cast h), Reference.plane_out _ _ _ _ h]

/-- The array the kernel's run leaves is the reference's result on its argument. -/
theorem arr_eq : (dats m 0 c).arrAt 1 cfg0.N = Reference.out (m ((c : Thread nD τ).loc main_arg0)) := by
  refine (dats m 0 c).arrAt_eq_of_covers 1 _ (by decide +kernel) fun t _ y => ?_
  blk_simp
  rw [after0_1]
  frame_out
  rw [body_eq]
  refine (unsqueeze_apply _ y).trans ((Equation.out_eq _ (img t) _ (block_plane m c t) (y 2) (y 3)).trans ?_)
  blk_ext [idx t, img]

end Cert.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, leaves its argument as it was and every counter at zero. -/
theorem reference_frame : Cert.quiescent_ReferenceIdeal (hReferenceIdeal := Cert.ReferenceIdeal.Gen.facts) := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- Kernel and reference return the same array from the same argument, whatever it holds. -/
theorem equal : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    rw [Cert.Reference.res_eq, hagree c]
    exact (Cert.Result.arr_eq m c).symm

/-- All the claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, equal⟩

end Cert.Proof

end
